-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S16384x1 : Shape := ⟨2, ![16384, 1]⟩
abbrev S16384 : Shape := ⟨1, ![16384]⟩
abbrev S8x1x2048 : Shape := ⟨3, ![8, 1, 2048]⟩
abbrev S2048x1024 : Shape := ⟨2, ![2048, 1024]⟩
abbrev S2048 : Shape := ⟨1, ![2048]⟩
abbrev S1x1x2048 : Shape := ⟨3, ![1, 1, 2048]⟩
abbrev S2048x1 : Shape := ⟨2, ![2048, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1, .f32⟩
  | .hbm, ⟨3, _⟩ => ⟨S16384x1, .i1⟩
  | .hbm, ⟨4, _⟩ => ⟨S16384, .f32⟩
  | .hbm, ⟨5, _⟩ => ⟨S16384x1, .f32⟩
  | .hbm, ⟨6, _⟩ => ⟨S16384, .f32⟩
  | .hbm, ⟨7, _⟩ => ⟨S8x1x2048, .f32⟩
  | .hbm, ⟨8, _⟩ => ⟨S16384, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S2048, .f32⟩
  | .local _ .vmem, ⟨5, _⟩ => ⟨S2048, .f32⟩
  | .local _ .vmem, ⟨6, _⟩ => ⟨S2048, .f32⟩
  | .local _ .vmem, ⟨7, _⟩ => ⟨S2048, .f32⟩
  | .local _ .vmem, ⟨8, _⟩ => ⟨S1x1x2048, .f32⟩
  | .local _ .vmem, ⟨9, _⟩ => ⟨S1x1x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x1024 : Shape := ⟨2, ![16384, 1024]⟩
abbrev S16384x1 : Shape := ⟨2, ![16384, 1]⟩
abbrev S16384 : Shape := ⟨1, ![16384]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1, .f32⟩
  | .hbm, ⟨3, _⟩ => ⟨S16384x1, .i1⟩
  | .hbm, ⟨4, _⟩ => ⟨S16384, .i1⟩
  | .hbm, ⟨5, _⟩ => ⟨S16384x1024, .i32⟩
  | .hbm, ⟨6, _⟩ => ⟨S_, .f32⟩
  | .hbm, ⟨7, _⟩ => ⟨S_, .i32⟩
  | .hbm, ⟨8, _⟩ => ⟨S16384, .f32⟩
  | .hbm, ⟨9, _⟩ => ⟨S16384, .i32⟩
  | .hbm, ⟨10, _⟩ => ⟨S16384x1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S_, .i32⟩
  | .hbm, ⟨15, _⟩ => ⟨S16384x1, .i32⟩
  | .hbm, ⟨16, _⟩ => ⟨S16384x1, .i32⟩
  | .hbm, ⟨17, _⟩ => ⟨S16384x1, .i32⟩
  | .hbm, ⟨18, _⟩ => ⟨S16384x1x1, .i32⟩
  | .hbm, ⟨19, _⟩ => ⟨S1, .i32⟩
  | .hbm, ⟨20, _⟩ => ⟨S_, .i32⟩
  | .hbm, ⟨21, _⟩ => ⟨S16384x1x1, .i32⟩
  | .hbm, ⟨22, _⟩ => ⟨S16384x1x1, .i1⟩
  | .hbm, ⟨23, _⟩ => ⟨S1x1x1, .i32⟩
  | .hbm, ⟨24, _⟩ => ⟨S16384x1x1, .i32⟩
  | .hbm, ⟨25, _⟩ => ⟨S16384x1x1, .i1⟩
  | .hbm, ⟨26, _⟩ => ⟨S16384x1x1, .i1⟩
  | .hbm, ⟨27, _⟩ => ⟨S_, .i1⟩
  | .hbm, ⟨28, _⟩ => ⟨S16384x1, .i1⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384, .f32⟩
  | .hbm, ⟨34, _⟩ => ⟨S_, .f32⟩
  | .hbm, ⟨35, _⟩ => ⟨S1, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_c : Ref sig .tc := ⟨.hbm, 7, rfl⟩
abbrev main_call0_v1_0 : Ref sig .tc := ⟨.hbm, 8, rfl⟩
abbrev main_v1 : Ref sig .tc := ⟨.hbm, 9, rfl⟩
abbrev main_v2 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_cst : Ref sig .tc := ⟨.hbm, 30, rfl⟩
abbrev main_call1_v14 : Ref sig .tc := ⟨.hbm, 31, rfl⟩
abbrev main_v3 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_call2_v0 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩

abbrev nD : Nat := 1
abbrev τ : Topo := Topo.v7x

variable {F : FTy → Type} [FloatOps F]
-- ==== Proof.FirstMax.lean ====
/- Rows of extended reals: the first column at which a row is greatest, and the two ways the programs find it — a
   maximum, then the least column attaining it; and one pass over (value, column) pairs keeping the better pair. -/
module

public import Idealize.ShloMosaic.PureOps.Ideal
public import Mathlib.Data.Finset.Max
public import Mathlib.Algebra.BigOperators.Group.Finset.Basic

@[expose] public section

noncomputable section

namespace Cert.Row

open Idealize.ShloMosaic

/-- The row `f` is greatest at column `k`, and at no earlier column. -/
def IsFirst {n : Nat} (f : Fin n → EReal) (k : Fin n) : Prop :=
  (∀ i, f i ≤ f k) ∧ ∀ i, f i = f k → k ≤ i

/-- A row has at most one such column. -/
theorem IsFirst.unique {n : Nat} {f : Fin n → EReal} {k l : Fin n} (hk : IsFirst f k) (hl : IsFirst f l) : k = l := by
  have e : f k = f l := le_antisymm (hl.1 k) (hk.1 l)
  exact le_antisymm (hk.2 l e.symm) (hl.2 k e)

/-- A row with at least one column has one. -/
theorem exists_isFirst {n : Nat} [NeZero n] (f : Fin n → EReal) : ∃ k, IsFirst f k := by
  classical
  obtain ⟨b, -, hb⟩ := Finset.exists_max_image Finset.univ f ⟨0, Finset.mem_univ _⟩
  have hne : (Finset.univ.filter fun i => f i = f b).Nonempty := ⟨b, by simp⟩
  refine ⟨(Finset.univ.filter fun i => f i = f b).min' hne, ?_⟩
  have hm := Finset.min'_mem _ hne
  have hv : f ((Finset.univ.filter fun i => f i = f b).min' hne) = f b := (Finset.mem_filter.mp hm).2
  exact ⟨fun i => (hb i (Finset.mem_univ i)).trans (le_of_eq hv.symm),
    fun i hi => Finset.min'_le _ _ (Finset.mem_filter.mpr ⟨Finset.mem_univ i, hi.trans hv⟩)⟩

/-- The first column at which the row is greatest. -/
def first {n : Nat} [NeZero n] (f : Fin n → EReal) : Fin n := (exists_isFirst f).choose

/-- `first f` is such a column. -/
theorem first_spec {n : Nat} [NeZero n] (f : Fin n → EReal) : IsFirst f (first f) := (exists_isFirst f).choose_spec

/-- And any such column is `first f`. -/
theorem IsFirst.eq_first {n : Nat} [NeZero n] {f : Fin n → EReal} {k : Fin n} (h : IsFirst f k) : k = first f :=
  h.unique (first_spec f)

/-- The greatest value of a row, folded from the bottom, is the row at its first greatest column. -/
theorem fold_max_eq {n : Nat} [NeZero n] (f : Fin n → EReal) : Finset.univ.fold max ⊥ f = f (first f) := by
  apply le_antisymm
  · exact (Finset.fold_max_le _).mpr ⟨bot_le, fun i _ => (first_spec f).1 i⟩
  · exact (Finset.le_fold_max _).mpr (Or.inr ⟨_, Finset.mem_univ _, le_rfl⟩)

/-! ## Words -/

/-- A small natural number is its word read as a signed integer. -/
theorem toInt_ofNat_small {k : Nat} (h : k < 2147483648) : (BitVec.ofNat 32 k).toInt = k := by
  rw [BitVec.toInt_eq_toNat_of_lt (by simp; omega)]
  simp; omega

/-- Two small natural numbers with one word are equal. -/
theorem ofNat_inj_small {a b : Nat} (ha : a < 2147483648) (hb : b < 2147483648)
    (h : BitVec.ofNat 32 a = BitVec.ofNat 32 b) : a = b := by
  have := congrArg BitVec.toInt h
  rw [toInt_ofNat_small ha, toInt_ofNat_small hb] at this
  exact_mod_cast this

/-! ## One pass over pairs -/

/-- The pair `p` is at least as good as `q`: a greater value, or the same value at a column not later. -/
def Beats (p q : EReal × BitVec 32) : Prop := q.1 < p.1 ∨ q.1 = p.1 ∧ p.2.toInt ≤ q.2.toInt

theorem Beats.refl (p : EReal × BitVec 32) : Beats p p := Or.inr ⟨rfl, le_rfl⟩

theorem Beats.trans {p q r : EReal × BitVec 32} (h : Beats p q) (h' : Beats q r) : Beats p r := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- A pass that at each step keeps one of the two pairs, a best one, ends at a pair of the list (or the starting one)
    that is at least as good as all of them. -/
theorem foldl_best (step : EReal × BitVec 32 → EReal × BitVec 32 → EReal × BitVec 32)
    (hstep : ∀ a b, (step a b = a ∨ step a b = b) ∧ Beats (step a b) a ∧ Beats (step a b) b) :
    ∀ (l : List (EReal × BitVec 32)) (a : EReal × BitVec 32),
      (l.foldl step a = a ∨ l.foldl step a ∈ l) ∧ Beats (l.foldl step a) a ∧ ∀ q ∈ l, Beats (l.foldl step a) q
  | [], a => ⟨Or.inl rfl, Beats.refl a, fun _ h => absurd h List.not_mem_nil⟩
  | b :: l, a => by
    obtain ⟨hm, hb, hl⟩ := foldl_best step hstep l (step a b)
    obtain ⟨sm, sa, sb⟩ := hstep a b
    refine ⟨?_, hb.trans sa, ?_⟩
    · rcases hm with hm | hm
      · rcases sm with sm | sm
        · exact Or.inl (hm.trans sm)
        · exact Or.inr (List.mem_cons.mpr (Or.inl (hm.trans sm)))
      · exact Or.inr (List.mem_cons_of_mem _ hm)
    · intro q hq
      rcases List.mem_cons.mp hq with rfl | hq
      · exact hb.trans sb
      · exact hl q hq

/-- Such a pass over all the pairs (value, column) of a row, started from the bottom at column zero, ends at the column
    `first`: on a row of bottoms that is column zero, the starting one. -/
theorem foldl_first {n : Nat} [NeZero n] (hn : n < 2147483648) (f : Fin n → EReal)
    (step : EReal × BitVec 32 → EReal × BitVec 32 → EReal × BitVec 32)
    (hstep : ∀ a b, (step a b = a ∨ step a b = b) ∧ Beats (step a b) a ∧ Beats (step a b) b)
    (l : List (EReal × BitVec 32)) (hl : ∀ q, q ∈ l ↔ ∃ k : Fin n, q = (f k, BitVec.ofNat 32 k.val)) :
    (l.foldl step (⊥, 0#32)).2 = BitVec.ofNat 32 (first f).val := by
  obtain ⟨hm, -, hb⟩ := foldl_best step hstep l (⊥, 0#32)
  generalize l.foldl step (⊥, 0#32) = p at hm hb
  -- the result is the pair of some column
  obtain ⟨k, hk⟩ : ∃ k : Fin n, p = (f k, BitVec.ofNat 32 k.val) := by
    rcases hm with hm | hm
    · refine ⟨0, ?_⟩
      have h0 := hb _ ((hl _).mpr ⟨0, rfl⟩)
      rw [hm] at h0 ⊢
      have : f 0 = ⊥ := by
        rcases h0 with h0 | ⟨h0, -⟩
        · exact absurd h0 not_lt_bot
        · exact h0
      rw [this]; rfl
    · exact (hl p).mp hm
  have hf : IsFirst f k := by
    have hb' : ∀ i : Fin n, Beats (f k, BitVec.ofNat 32 k.val) (f i, BitVec.ofNat 32 i.val) :=
      fun i => hk ▸ hb _ ((hl _).mpr ⟨i, rfl⟩)
    refine ⟨fun i => ?_, fun i hi => ?_⟩
    · rcases hb' i with h | ⟨h, -⟩
      · exact le_of_lt h
      · exact le_of_eq h
    · rcases hb' i with h | ⟨-, h⟩
      · exact absurd hi (ne_of_lt h)
      · rw [toInt_ofNat_small (by omega), toInt_ofNat_small (by omega)] at h
        exact Fin.le_def.mpr (by exact_mod_cast h)
  rw [hk, hf.eq_first]

/-! ## A maximum, then the least column attaining it -/

/-- The candidate column at `i`: `i` itself where the row attains `v`, the filler `2^30` elsewhere. -/
def cand {n : Nat} (f : Fin n → EReal) (v : EReal) (i : Fin n) : BitVec 32 :=
  if f i = v then BitVec.ofNat 32 i.val else 1073741824#32

/-- A word that is one of the candidates (or the start) and signed at most all of them is the word of the first
    greatest column. -/
theorem least_cand {n : Nat} [NeZero n] (hn : n < 1073741824) (f : Fin n → EReal) (w : BitVec 32)
    (hle : ∀ i, w.toInt ≤ (cand f (f (first f)) i).toInt)
    (hmem : w = 2147483647#32 ∨ ∃ i, w = cand f (f (first f)) i) : w = BitVec.ofNat 32 (first f).val := by
  have h1 := hle (first f)
  rw [cand, if_pos rfl, toInt_ofNat_small (by omega)] at h1
  rcases hmem with rfl | ⟨i, rfl⟩
  · have : (2147483647#32).toInt = 2147483647 := by decide
    omega
  · unfold cand at h1 ⊢
    split at h1
    · next h =>
      rw [if_pos h]
      rw [toInt_ofNat_small (by omega)] at h1
      have h2 : (first f).val ≤ i.val := (first_spec f).2 i h
      have h3 : i.val = (first f).val := Nat.le_antisymm (by exact_mod_cast h1) h2
      rw [h3]
    · have : (1073741824#32).toInt = 1073741824 := by decide
      omega

/-- The candidate at `i` is the word of the first greatest column exactly at that column. -/
theorem cand_eq_iff {n : Nat} [NeZero n] (hn : n < 1073741824) (f : Fin n → EReal) (i : Fin n) :
    cand f (f (first f)) i = BitVec.ofNat 32 (first f).val ↔ i = first f := by
  constructor
  · intro h
    unfold cand at h
    split at h
    · exact Fin.ext (ofNat_inj_small (by omega) (by omega) h)
    · have h' := congrArg BitVec.toInt h
      rw [toInt_ofNat_small (k := (first f).val) (by omega)] at h'
      have : (1073741824#32).toInt = 1073741824 := by decide
      omega
  · rintro rfl
    rw [cand, if_pos rfl]

/-- So the sum that keeps another row's entries where the candidate is that word is the entry at that column. -/
theorem sum_kept {n : Nat} [NeZero n] (hn : n < 1073741824) (f g : Fin n → EReal) :
    (∑ i, if cand f (f (first f)) i = BitVec.ofNat 32 (first f).val then g i else 0) = g (first f) := by
  simp only [cand_eq_iff hn, Finset.sum_ite_eq', Finset.mem_univ, if_true]

end Cert.Row

end
-- ==== Proof.Target.lean ====
/- What both programs compute, row by row, as a function of the four argument arrays. -/
module

public import proofs.«01_k».proof.Proof.FirstMax
public import Idealize.ShloMosaic.Lib.ValueIdxCore

@[expose] public section

noncomputable section

namespace Cert.Row

open Idealize.ShloMosaic Idealize.ShloMosaic.ValueIdx

/-- One row's target: the entry of `ac` at the first column where `av` is greatest, or zero when the flag `d` is set,
    times the discount, plus the reward `r`. -/
def target (ac av : Fin 1024 → EReal) (r : EReal) (d : BitVec 1) : EReal :=
  (if d = 1#1 then 0 else ac (first av)) * Ideal.ofBits .f32 0x3F7D70A4#32 + r

/-- The whole result: row `j`'s target of the two value arrays' rows, the reward column and the flag column. -/
def want (x0 x1 : (⟨2, ![16384, 1024]⟩ : Shape).Idx → EReal) (x2 : (⟨2, ![16384, 1]⟩ : Shape).Idx → EReal)
    (x3 : (⟨2, ![16384, 1]⟩ : Shape).Idx → BitVec 1) : (⟨1, ![16384]⟩ : Shape).Idx → EReal :=
  fun j => target (fun k => x0 (ix2 (j 0) k)) (fun k => x1 (ix2 (j 0) k)) (x2 (ix2 (j 0) 0)) (x3 (ix2 (j 0) 0))

end Cert.Row

end
-- ==== Proof.Block.lean ====
/- One block of the kernel: what its vector operations leave at each row of the block. -/
module

public import proofs.«01_k».proof.Proof.Target
public import proofs.«01_k».proof.Proof.Gen.KernelIdeal.Skeleton
public import Idealize.ShloMosaic.Lib.Pipeline.Value
public import Idealize.ShloMosaic.Lib.SortNet.Extract
public import Idealize.ShloMosaic.PureOps.Ideal.Laws

@[expose] public section

noncomputable section

namespace Cert.Block

open Idealize.ShloMosaic Idealize.ShloMosaic.ValueIdx Cert.Row

/-! ## Reductions along the rows of a matrix -/

section Rows

variable {R C : Nat}

/-- The matrix index over row `r` with column `k` put in. -/
theorem lift_row (h : (⟨2, ![R, C]⟩ : Shape).Reduces [1] ⟨1, ![R]⟩) (r : Fin R) (k : Fin C) : h.lift (ix1 r) k = ix2 r k := by
  funext c
  refine Fin.ext ?_
  match c with
  | ⟨0, _⟩ => rfl
  | ⟨1, _⟩ => rfl

/-- A fold of signed minima is at most each of its operands, and is the start or one of them. -/
theorem fold_minsi {ι : Type} [DecidableEq ι] (s : Finset ι) (b : BitVec 32) (f : ι → BitVec 32) :
    (∀ i ∈ s, (s.fold IntOp.minsi b f).toInt ≤ (f i).toInt)
      ∧ (s.fold IntOp.minsi b f = b ∨ ∃ i ∈ s, s.fold IntOp.minsi b f = f i) := by
  induction s using Finset.induction_on with
  | empty => exact ⟨fun i h => absurd h (Finset.notMem_empty i), Or.inl Finset.fold_empty⟩
  | insert a s ha ih =>
    rw [Finset.fold_insert ha]
    have hm : IntOp.minsi (f a) (s.fold IntOp.minsi b f) = f a
        ∨ IntOp.minsi (f a) (s.fold IntOp.minsi b f) = s.fold IntOp.minsi b f := by
      unfold IntOp.minsi; split
      · exact Or.inl rfl
      · exact Or.inr rfl
    have ht := SortNet.toInt_minsi (f a) (s.fold IntOp.minsi b f)
    refine ⟨fun i hi => ?_, ?_⟩
    · rw [ht]
      rcases Finset.mem_insert.mp hi with rfl | hi
      · exact min_le_left _ _
      · exact (min_le_right _ _).trans (ih.1 i hi)
    · rcases hm with hm | hm
      · exact Or.inr ⟨a, Finset.mem_insert_self a s, hm⟩
      · rcases ih.2 with h | ⟨i, hi, h⟩
        · exact Or.inl (hm.trans h)
        · exact Or.inr ⟨i, Finset.mem_insert_of_mem hi, hm.trans h⟩

/-- A row vector cast to a column and spread over the columns reads, at `(r, k)`, its element `r`. -/
theorem spread_apply {α : Type} (x : (⟨1, ![R]⟩ : Shape).Idx → α) (hc : (⟨1, ![R]⟩ : Shape).ShapeCasts ⟨2, ![R, 1]⟩)
    (hb : (⟨2, ![R, 1]⟩ : Shape).Broadcasts ⟨2, ![R, C]⟩) (r : Fin R) (k : Fin C) :
    broadcastTo ⟨2, ![R, C]⟩ (shapeCast ⟨2, ![R, 1]⟩ x hc) hb (ix2 r k) = x (ix1 r) := by
  refine (broadcastTo_apply _ hb (ix2 r k) (ix2 r 0) ?_).trans ?_
  · intro a
    match a with
    | ⟨0, _⟩ =>
      show r.val = if R = 1 then 0 else r.val
      split
      · have := r.isLt; omega
      · rfl
    | ⟨1, _⟩ => rfl
  · refine shapeCast_apply _ _ _ _ ?_
    rw [Shape.rowMajor_val_one, Shape.rowMajor_val_two]
    show r.val = r.val * 1 + 0
    omega

variable [NeZero C] (hC : C < 1073741824) (a b : FVec Ideal ⟨2, ![R, C]⟩ .f32)
  (h : (⟨2, ![R, C]⟩ : Shape).Reduces [1] ⟨1, ![R]⟩) (hc : (⟨1, ![R]⟩ : Shape).ShapeCasts ⟨2, ![R, 1]⟩)
  (hb : (⟨2, ![R, 1]⟩ : Shape).Broadcasts ⟨2, ![R, C]⟩) (hi : (⟨2, ![R, C]⟩ : Shape).Iotas .tc 32 [1])

/-- The candidate columns: a column where the row attains its maximum, a filler elsewhere. -/
def cands : IVec ⟨2, ![R, C]⟩ 32 :=
  select (cmpf .oeq a (broadcastTo ⟨2, ![R, C]⟩
      (shapeCast ⟨2, ![R, 1]⟩ (multiReduction .maximumf [1] ⟨1, ![R]⟩ a 0xFF800000#32 h (.inl rfl) rfl) hc) hb))
    (iota .tc ⟨2, ![R, C]⟩ 32 [1] hi) (broadcast ⟨2, ![R, C]⟩ 1073741824#32)

/-- The kept entries: the other matrix's entry where the candidate is the row's least one, zero elsewhere. -/
def kept : FVec Ideal ⟨2, ![R, C]⟩ .f32 :=
  select (cmpi .eq (cands a h hc hb hi) (broadcastTo ⟨2, ![R, C]⟩
      (shapeCast ⟨2, ![R, 1]⟩ (multiReductionI .minsi [1] ⟨1, ![R]⟩ (cands a h hc hb hi) 2147483647#32 h rfl) hc) hb))
    b (broadcast ⟨2, ![R, C]⟩ (Scalar.ofBits (F := Ideal) .f32 0x00000000#32))

/-- The maximum starts from the bottom. -/
theorem start_bot : FloatOps.ofBits (F := Ideal) .f32 0xFF800000#32 = ⊥ := by
  show Ideal.ofBits .f32 0xFF800000#32 = ⊥
  simp [Ideal.ofBits, Ideal.ieee]

/-- A row's maximum is the row at its first greatest column. -/
theorem rowMax_apply (r : Fin R) :
    multiReduction (F := Ideal) (φ := .f32) .maximumf [1] ⟨1, ![R]⟩ a 0xFF800000#32 h (.inl rfl) rfl (ix1 r)
      = a (ix2 r (first fun k => a (ix2 r k))) := by
  refine (Ideal.multiReduction_maximumf_single a _ h _ _ (ix1 r)).trans ?_
  rw [start_bot]
  refine Eq.trans ?_ (fold_max_eq fun k : Fin C => a (ix2 r k))
  exact congrArg (fun f : Fin C → EReal => Finset.univ.fold max ⊥ f) (funext fun k => congrArg a (lift_row h r k))

/-- The candidate at `(r, k)` is the row's candidate at `k`. -/
theorem cands_apply (r : Fin R) (k : Fin C) : cands a h hc hb hi (ix2 r k)
    = cand (fun k => a (ix2 r k)) (a (ix2 r (first fun k => a (ix2 r k)))) k := by
  unfold cands cand
  rw [select_apply, cmpf_apply, spread_apply, rowMax_apply, iota_single_apply]
  show Scalar.select (Ideal.cmp .oeq _ _) (BitVec.ofNat 32 k.val) 1073741824#32 = _
  by_cases he : a (ix2 r k) = a (ix2 r (first fun k => a (ix2 r k)))
  · rw [if_pos he, ← he]
    simp [Ideal.cmp, Scalar.select]
  · rw [if_neg he]
    simp [Ideal.cmp, he, Scalar.select]

include hC in
/-- The least candidate of row `r` is the row's first greatest column. -/
theorem rowMin_apply (r : Fin R) :
    multiReductionI .minsi [1] ⟨1, ![R]⟩ (cands a h hc hb hi) 2147483647#32 h rfl (ix1 r)
      = BitVec.ofNat 32 (first fun k => a (ix2 r k)).val := by
  refine (multiReductionI_eq_fold .minsi _ _ h _ (ix1 r)).trans ?_
  have e : ((Finset.univ.filter fun i => h.drop i = ix1 r).fold IKind.minsi.op 2147483647#32 (cands a h hc hb hi))
      = (Finset.univ : Finset (Fin C)).fold IntOp.minsi 2147483647#32
          (fun k => cand (fun k => a (ix2 r k)) (a (ix2 r (first fun k => a (ix2 r k)))) k) := by
    refine (h.fold_filter_drop_single IntOp.minsi _ _ (ix1 r)).trans ?_
    exact congrArg (fun f : Fin C → BitVec 32 => Finset.univ.fold IntOp.minsi 2147483647#32 f)
      (funext fun k => (congrArg (cands a h hc hb hi) (lift_row h r k)).trans (cands_apply a h hc hb hi r k))
  refine e.trans ?_
  obtain ⟨h1, h2⟩ := fold_minsi (Finset.univ : Finset (Fin C)) 2147483647#32
    (fun k => cand (fun k => a (ix2 r k)) (a (ix2 r (first fun k => a (ix2 r k)))) k)
  refine least_cand hC (fun k => a (ix2 r k)) _ (fun i => h1 i (Finset.mem_univ i)) ?_
  rcases h2 with h2 | ⟨i, -, h2⟩
  · exact Or.inl h2
  · exact Or.inr ⟨i, h2⟩

include hC in
/-- The kept entry at `(r, k)`: the other matrix's where the row's candidate is the row's first greatest column. -/
theorem kept_apply (r : Fin R) (k : Fin C) : kept a b h hc hb hi (ix2 r k)
    = if cand (fun k => a (ix2 r k)) (a (ix2 r (first fun k => a (ix2 r k)))) k
        = BitVec.ofNat 32 (first fun k => a (ix2 r k)).val then b (ix2 r k) else 0 := by
  unfold kept
  rw [select_apply]
  show Scalar.select (IntOp.cmpi .eq (cands a h hc hb hi (ix2 r k)) (broadcastTo ⟨2, ![R, C]⟩ _ _ (ix2 r k))) (b (ix2 r k))
    (Ideal.ofBits .f32 0x00000000#32) = _
  rw [spread_apply, rowMin_apply hC, cands_apply, Ideal.ofBits_zero_f32]
  by_cases he : cand (fun k => a (ix2 r k)) (a (ix2 r (first fun k => a (ix2 r k)))) k
      = BitVec.ofNat 32 (first fun k => a (ix2 r k)).val
  · rw [if_pos he, he]
    simp [IntOp.cmpi, Scalar.select]
  · rw [if_neg he]
    show Scalar.select (BitVec.ofBool (_ == _)) (b (ix2 r k)) 0 = 0
    rw [beq_eq_false_iff_ne.mpr he]
    rfl

include hC in
/-- The kept entries of row `r` sum to the other matrix's entry at the row's first greatest column. -/
theorem rowSum_apply (r : Fin R) :
    multiReduction (F := Ideal) (φ := .f32) .add [1] ⟨1, ![R]⟩ (kept a b h hc hb hi) 0x00000000#32 h (.inl rfl) rfl (ix1 r)
      = b (ix2 r (first fun k => a (ix2 r k))) := by
  refine (Ideal.multiReduction_add_single _ _ h _ _ (ix1 r)).trans ?_
  rw [← sum_kept hC (fun k => a (ix2 r k)) (fun k => b (ix2 r k))]
  exact Finset.sum_congr rfl fun k _ => (congrArg (kept a b h hc hb hi) (lift_row h r k)).trans (kept_apply hC a b h hc hb hi r k)

end Rows

/-! ## The block -/

open Cert.KernelIdeal Cert.KernelIdeal.Gen

/-- The block's payload in those terms. -/
theorem pay_eq (v0 v1 : FVec Ideal S2048x1024 .f32) (v18 v21 : FVec Ideal S2048 .f32) : k0_pay1 (F := Ideal) v0 v1 v18 v21
    = addf (mulf (select (cmpf .one (shapeCast S1x1x2048 (shapeCast S2048 v18 shapeCasts_S2048_S2048) shapeCasts_S2048_S1x1x2048)
            (broadcast S1x1x2048 (Scalar.ofBits (F := Ideal) .f32 0x00000000#32)))
          (broadcast S1x1x2048 (Scalar.ofBits (F := Ideal) .f32 0x00000000#32))
          (shapeCast S1x1x2048 (shapeCast S2048x1 (multiReduction (F := Ideal) (φ := .f32) .add [1] S2048
            (kept v0 v1 reduces_S2048x1024_S2048 shapeCasts_S2048_S2048x1 broadcasts_S2048x1_S2048x1024 iota_S2048x1024_d1_w32)
            0x00000000#32 reduces_S2048x1024_S2048 (.inl rfl) rfl) shapeCasts_S2048_S2048x1) shapeCasts_S2048x1_S1x1x2048))
        (broadcast S1x1x2048 (Scalar.ofBits (F := Ideal) .f32 0x3F7D70A4#32)))
      (shapeCast S1x1x2048 (shapeCast S2048 v21 shapeCasts_S2048_S2048) shapeCasts_S2048_S1x1x2048) := rfl

/-- A row of `R` cast to `[1, 1, R]` reads, at `(0, 0, r)`, its element `r`. -/
theorem lead_apply {R : Nat} {α : Type} (x : (⟨1, ![R]⟩ : Shape).Idx → α) (h : (⟨1, ![R]⟩ : Shape).ShapeCasts ⟨3, ![1, 1, R]⟩)
    (r : Fin R) : shapeCast ⟨3, ![1, 1, R]⟩ x h (ix3 0 0 r) = x (ix1 r) := by
  refine shapeCast_apply _ _ _ _ ?_
  rw [Shape.rowMajor_val_one, Shape.rowMajor_val_three]
  show r.val = ((0 * 1 + 0) * R + r.val)
  omega

/-- The same through a column. -/
theorem lead_column_apply {R : Nat} {α : Type} (x : (⟨1, ![R]⟩ : Shape).Idx → α)
    (h : (⟨1, ![R]⟩ : Shape).ShapeCasts ⟨2, ![R, 1]⟩) (h' : (⟨2, ![R, 1]⟩ : Shape).ShapeCasts ⟨3, ![1, 1, R]⟩)
    (r : Fin R) : shapeCast ⟨3, ![1, 1, R]⟩ (shapeCast ⟨2, ![R, 1]⟩ x h) h' (ix3 0 0 r) = x (ix1 r) := by
  refine (shapeCast_apply _ _ _ (ix2 r 0) ?_).trans (shapeCast_apply _ _ _ _ ?_)
  · rw [Shape.rowMajor_val_two, Shape.rowMajor_val_three]
    show r.val * 1 + 0 = ((0 * 1 + 0) * R + r.val)
    omega
  · rw [Shape.rowMajor_val_one, Shape.rowMajor_val_two]
    show r.val = r.val * 1 + 0
    omega

/-- What the block holds at row `r`: the target of that row, its flag being whether the third vector is not zero there. -/
theorem pay_apply (v0 v1 : FVec Ideal S2048x1024 .f32) (v18 v21 : FVec Ideal S2048 .f32) (r : Fin 2048) :
    k0_pay1 (F := Ideal) v0 v1 v18 v21 (ix3 0 0 r)
      = (if v18 (ix1 r) ≠ 0 then 0 else v1 (ix2 r (first fun k : Fin 1024 => v0 (ix2 r k)))) * Ideal.ofBits .f32 0x3F7D70A4#32
        + v21 (ix1 r) := by
  rw [pay_eq]
  show Scalar.select (Ideal.cmp .one (shapeCast S1x1x2048 (shapeCast S2048 v18 shapeCasts_S2048_S2048) shapeCasts_S2048_S1x1x2048 (ix3 0 0 r))
        (Ideal.ofBits .f32 0x00000000#32)) (Ideal.ofBits .f32 0x00000000#32)
        (shapeCast S1x1x2048 (shapeCast S2048x1 (multiReduction (F := Ideal) (φ := .f32) .add [1] S2048
            (kept v0 v1 reduces_S2048x1024_S2048 shapeCasts_S2048_S2048x1 broadcasts_S2048x1_S2048x1024 iota_S2048x1024_d1_w32)
            0x00000000#32 reduces_S2048x1024_S2048 (.inl rfl) rfl) shapeCasts_S2048_S2048x1) shapeCasts_S2048x1_S1x1x2048 (ix3 0 0 r))
      * Ideal.ofBits .f32 0x3F7D70A4#32
      + shapeCast S1x1x2048 (shapeCast S2048 v21 shapeCasts_S2048_S2048) shapeCasts_S2048_S1x1x2048 (ix3 0 0 r) = _
  rw [lead_apply (shapeCast S2048 v18 shapeCasts_S2048_S2048), lead_apply (shapeCast S2048 v21 shapeCasts_S2048_S2048), lead_column_apply,
    shapeCast_self, shapeCast_self, Ideal.ofBits_zero_f32,
    rowSum_apply (R := 2048) (C := 1024) (by norm_num) v0 v1 reduces_S2048x1024_S2048]
  by_cases hd : v18 (ix1 r) = 0
  · rw [if_neg (not_not.mpr hd), hd]
    simp [Ideal.cmp, Scalar.select]
  · rw [if_pos hd]
    simp [Ideal.cmp, hd, Scalar.select]

end Cert.Block

end
-- ==== Proof.KernelValue.lean ====
/- The kernel's run: its result holds each row's target of the argument arrays, the arguments unchanged. -/
module

public import proofs.«01_k».proof.Proof.Block
public import proofs.«01_k».proof.Proof.Gen.KernelIdeal.Frame
public import Idealize.ShloMosaic.Lib.Pipeline.Value
public import Idealize.ShloMosaic.Lib.Pipeline.ValueKit

@[expose] public section

noncomputable section

namespace Cert.KernelValue

open Idealize.ShloMosaic hiding ix1 ix2 ix3 eq_ix1
open Idealize.ShloMosaic.ValueIdx Idealize.ShloMosaic.TcCoe Idealize.SL.Sem
open Idealize.ShloMosaic.Pipeline (Dat)
open Cert.KernelIdeal Cert.KernelIdeal.Gen Cert.Row

variable (m : (ℓ : Loc nD τ sig) → Buf (Elt Ideal) ℓ)

/-! ## Where the blocks sit -/

/-- Row `r` of block `t` is row `2048 * t + r` of the array. -/
def row (t : Fin 8) (r : Fin 2048) : Fin 16384 := ⟨2048 * t.val + r.val, by have := t.isLt; have := r.isLt; omega⟩

/-- The block indices at a grid point: the point along the first axis, zero along the others. -/
theorem idxs : ∀ t : Fin grid0.N,
    (win0_0.index t 0 = t.val ∧ win0_0.index t 1 = 0) ∧ (win0_1.index t 0 = t.val ∧ win0_1.index t 1 = 0)
      ∧ win0_2.index t 0 = t.val ∧ win0_3.index t 0 = t.val
      ∧ win0_4.index t 0 = t.val ∧ win0_4.index t 1 = 0 ∧ win0_4.index t 2 = 0 := by decide +kernel

/-- Block `t` of the first array, at row `r`, is the array's row `2048 * t + r`. -/
theorem blk0 (c : Dev nD) (t : Fin 8) (r : Fin 2048) (k : Fin 1024) :
    iblk m c 0 t (ix2 r k) = V m c main_arg0 (ix2 (row t r) k) := by
  unfold iblk
  refine congrArg (V m c main_arg0) (funext fun a => Fin.ext ?_)
  refine (Pipeline.Window.rect_emb_val win0_0 t (ix2 r k) a).trans ?_
  match a with
  | ⟨0, _⟩ =>
    show win0_0.index t 0 * 2048 + r.val = 2048 * t.val + r.val
    rw [(idxs t).1.1]; omega
  | ⟨1, _⟩ =>
    show win0_0.index t 1 * 1024 + k.val = k.val
    rw [(idxs t).1.2]; omega

/-- Block `t` of the second array, likewise. -/
theorem blk1 (c : Dev nD) (t : Fin 8) (r : Fin 2048) (k : Fin 1024) :
    iblk m c 1 t (ix2 r k) = V m c main_arg1 (ix2 (row t r) k) := by
  unfold iblk
  refine congrArg (V m c main_arg1) (funext fun a => Fin.ext ?_)
  refine (Pipeline.Window.rect_emb_val win0_1 t (ix2 r k) a).trans ?_
  match a with
  | ⟨0, _⟩ =>
    show win0_1.index t 0 * 2048 + r.val = 2048 * t.val + r.val
    rw [(idxs t).2.1.1]; omega
  | ⟨1, _⟩ =>
    show win0_1.index t 1 * 1024 + k.val = k.val
    rw [(idxs t).2.1.2]; omega

/-- Block `t` of the reward vector, at `r`, is the vector's element `2048 * t + r`. -/
theorem blk2 (c : Dev nD) (t : Fin 8) (r : Fin 2048) : iblk m c 2 t (ix1 r) = V m c main_v0 (ix1 (row t r)) := by
  unfold iblk
  refine congrArg (V m c main_v0) (funext fun a => Fin.ext ?_)
  refine (Pipeline.Window.rect_emb_val win0_2 t (ix1 r) a).trans ?_
  match a with
  | ⟨0, _⟩ =>
    show win0_2.index t 0 * 2048 + r.val = 2048 * t.val + r.val
    rw [(idxs t).2.2.1]; omega

/-- Block `t` of the flag vector, likewise. -/
theorem blk3 (c : Dev nD) (t : Fin 8) (r : Fin 2048) : iblk m c 3 t (ix1 r) = V m c main_v2 (ix1 (row t r)) := by
  unfold iblk
  refine congrArg (V m c main_v2) (funext fun a => Fin.ext ?_)
  refine (Pipeline.Window.rect_emb_val win0_3 t (ix1 r) a).trans ?_
  match a with
  | ⟨0, _⟩ =>
    show win0_3.index t 0 * 2048 + r.val = 2048 * t.val + r.val
    rw [(idxs t).2.2.2.1]; omega

/-- Two points' output blocks share no index. -/
theorem apart (t t' : Fin cfg0.N) (h : t ≠ t') :
    Disjoint ((cfg0.win 4).blk t).view.set ((cfg0.win 4).blk t').view.set := by
  refine (cfg0.win 4).disjoint_blk fun e => h (Fin.ext ?_)
  have e0 : win0_4.index t 0 = win0_4.index t' 0 := congrFun e 0
  rwa [(idxs t).2.2.2.2.1, (idxs t').2.2.2.2.1] at e0

/-- Element `(0, 0, r)` of output block `t` is the array's element `(t, 0, r)`. -/
theorem emb4 (t : Fin 8) (r : Fin 2048) :
    ((cfg0.win 4).blk t).view.emb (ix3 (n0 := 1) (n1 := 1) (n2 := 2048) 0 0 r) = (ix3 t 0 r : S8x1x2048.Idx) := by
  refine funext fun a => Fin.ext ?_
  refine (Pipeline.Window.rect_emb_val win0_4 t (ix3 0 0 r) a).trans ?_
  match a with
  | ⟨0, _⟩ =>
    show win0_4.index t 0 * 1 + 0 = t.val
    rw [(idxs t).2.2.2.2.1]; omega
  | ⟨1, _⟩ =>
    show win0_4.index t 1 * 1 + 0 = 0
    rw [(idxs t).2.2.2.2.2.1]
  | ⟨2, _⟩ =>
    show win0_4.index t 2 * 2048 + r.val = r.val
    rw [(idxs t).2.2.2.2.2.2]; omega

/-! ## What the region finds in the two flattened columns -/

/-- A column cast to a vector reads, at `j`, the column's row `j`. -/
theorem column_apply {α : Type} (x : S16384x1.Idx → α) (h : S16384x1.ShapeCasts S16384) (j : Fin 16384) :
    shapeCast S16384 x h (ix1 j) = x (ix2 j 0) := by
  refine shapeCast_apply _ _ _ _ ?_
  rw [Shape.rowMajor_val_one, Shape.rowMajor_val_two]
  show j.val * 1 + 0 = j.val
  omega

/-- The reward vector at `j` is the reward column's row `j`. -/
theorem reward_apply (c : Dev nD) (j : Fin 16384) :
    V m c main_v0 (ix1 j) = m ((c : Thread nD τ).loc main_arg2) (ix2 j 0) := by
  entry_read
  exact column_apply _ _ j

/-- The flag vector at `j` is the flag column's row `j` as a number. -/
theorem flag_apply (c : Dev nD) (j : Fin 16384) :
    V m c main_v2 (ix1 j)
      = uitofp (F := Ideal) .f32 (m ((c : Thread nD τ).loc main_arg3) : IVec S16384x1 1) (ix2 j 0) := by
  have h : V m c main_v2 = shapeCast S16384 (uitofp (F := Ideal) .f32 (m ((c : Thread nD τ).loc main_arg3) : IVec S16384x1 1))
      shapeCasts_S16384x1_S16384 := by
    show StableHlo.after [hostOps0].flatten (fun b => m (c, b)) (Proc.devRef .tc main_v2) = _
    simp only [hostOps0, List.flatten_cons, List.flatten_nil, List.append_nil, List.cons_append, List.nil_append]
    after_results
    rfl
  rw [h]
  exact column_apply _ _ j

/-- A bit as a number is not zero exactly when it is set. -/
theorem flag_ne_zero (x : IVec S16384x1 1) (i : S16384x1.Idx) : uitofp (F := Ideal) .f32 x i ≠ 0 ↔ x i = 1#1 := by
  show ((((x i).toNat : ℝ)) : EReal) ≠ 0 ↔ _
  generalize x i = b
  revert b
  intro b
  have hb : b = 0#1 ∨ b = 1#1 := by revert b; decide
  rcases hb with rfl | rfl <;> simp

/-! ## The result -/

/-- Element `(t, 0, r)` of the kernel's output array is the target of row `2048 * t + r`. -/
theorem arr_apply (c : Dev nD) (t : Fin 8) (r : Fin 2048) :
    (dats m 0 c).arrAt 4 cfg0.N (ix3 t 0 r : S8x1x2048.Idx)
      = target (fun k => m ((c : Thread nD τ).loc main_arg0) (ix2 (row t r) k))
          (fun k => m ((c : Thread nD τ).loc main_arg1) (ix2 (row t r) k))
          (m ((c : Thread nD τ).loc main_arg2) (ix2 (row t r) 0)) (m ((c : Thread nD τ).loc main_arg3) (ix2 (row t r) 0)) := by
  have h := (dats m 0 c).arrAt_emb_eq_flushed 4 (fun t t' _ _ h => apart t t' h) t (flush0_4 t)
    (ix3 (n0 := 1) (n1 := 1) (n2 := 2048) 0 0 r)
  rw [emb4] at h
  refine h.trans ?_
  refine (congrFun (after0_4 m c t) (ix3 0 0 r)).trans ?_
  frame_out
  rw [Block.pay_apply]
  have e : (fun k : Fin 1024 => iblk m c 1 t (ix2 r k)) = fun k => m ((c : Thread nD τ).loc main_arg1) (ix2 (row t r) k) :=
    funext fun k => (blk1 m c t r k).trans (congrFun (V_main_arg1 m c) _)
  rw [e, blk0, blk2, blk3, reward_apply, flag_apply, V_main_arg0]
  unfold target
  simp only [flag_ne_zero]

/-- The kernel's result is each row's target. -/
theorem result_eq (c : Dev nD) :
    Pipeline.afterTail₀ cfgs (dats m) 0 (V0 m) [hostOps1] c main_v4
      = want (m ((c : Thread nD τ).loc main_arg0)) (m ((c : Thread nD τ).loc main_arg1))
          (m ((c : Thread nD τ).loc main_arg2)) (m ((c : Thread nD τ).loc main_arg3)) := by
  have hv : Pipeline.afterTail₀ cfgs (dats m) 0 (V0 m) [hostOps1] c main_v4
      = shapeCast S16384 ((dats m 0 c).arrAt 4 cfg0.N : S8x1x2048.Idx → EReal) shapeCasts_S8x1x2048_S16384 := by
    unfold Pipeline.afterTail₀
    simp only [hostOps1, List.flatten_cons, List.flatten_nil, List.append_nil, List.cons_append, List.nil_append]
    after_results
    exact congrArg (fun x => shapeCast S16384 x shapeCasts_S8x1x2048_S16384)
      (Pipeline.withArrays_arr spec0 (by decide) c (V0 m c) (fun w => (dats m 0 c).arrAt w cfg0.N) 4)
  rw [hv]
  funext j
  obtain ⟨t, r, hj⟩ : ∃ t r, j = ix1 (row t r) := by
    have hlt : (j 0).val < 16384 := (j 0).isLt
    refine ⟨⟨(j 0).val / 2048, by omega⟩, ⟨(j 0).val % 2048, by omega⟩, (eq_ix1 j).trans (congrArg ix1 (Fin.ext ?_))⟩
    show (j 0).val = 2048 * ((j 0).val / 2048) + (j 0).val % 2048
    omega
  subst hj
  refine (shapeCast_apply _ _ _ (ix3 t 0 r) ?_).trans (arr_apply m c t r)
  rw [Shape.rowMajor_val_one, Shape.rowMajor_val_three]
  show (t.val * 1 + 0) * 2048 + r.val = 2048 * t.val + r.val
  omega

/-- The kernel runs to its result, each row's target of the argument arrays, the arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v4)
        = want (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun r h c => ⟨((h.1 c).2 main_v4 (Pipeline.mem_restRefs_of main_v4 (by decide) (by decide))).trans (result_eq m c), h.2 c⟩)
    (θ_run_and (run_main m g) (unchanged m g))

end Cert.KernelValue

end
-- ==== Proof.RefValue.lean ====
/- The reference's operations, composed and read at an index: the first greatest column of each row of the action
   values, the entry gathered there, and the result. -/
module

public import proofs.«01_k».proof.Defs
public import proofs.«01_k».proof.Proof.Gen.ReferenceIdeal
public import proofs.«01_k».proof.Proof.Target
public import Idealize.ShloMosaic.Lib.Pipeline.Value
public import Idealize.ShloMosaic.PureOps.Ideal.Laws

@[expose] public section

noncomputable section

namespace Cert.RefValue

open Idealize.ShloMosaic Idealize.ShloMosaic.ValueIdx Idealize.SL.Sem
open Cert.ReferenceIdeal Cert.ReferenceIdeal.Gen Cert.Row

/-! ## The arg-max -/

/-- The reference's arg-max of each row (the pair of the greatest value and its column), as it composes it. -/
def argPair (x1 : S16384x1024.Idx → EReal) : S16384.Idx → EReal × BitVec 32 :=
  Host.argReduce (F := Ideal) (φ := .f32) (reducer_argmax_f32_i32 (F := Ideal)) x1 (iotaInDim S16384x1024 32 1)
    (constant (F := Ideal) S_ .f32 0xFF800000#32) (constantI S_ 32 0#32) reducesTo_S16384x1024_S16384_d1 h_S_

/-- Its definition, as an equation. -/
theorem argPair_eq (x1 : S16384x1024.Idx → EReal) : argPair x1 =
    Host.argReduce (F := Ideal) (φ := .f32) (reducer_argmax_f32_i32 (F := Ideal)) x1 (iotaInDim S16384x1024 32 1)
      (constant (F := Ideal) S_ .f32 0xFF800000#32) (constantI S_ 32 0#32) reducesTo_S16384x1024_S16384_d1 h_S_ := rfl

/-- The pattern the reductions start from denotes the bottom. -/
theorem ofBits_bot : Ideal.ofBits .f32 0xFF800000#32 = ⊥ := by
  simp [Ideal.ofBits, Ideal.ieee]

/-- The reducer keeps one of its two pairs (value and column together or not, on a tie the same value), at least as
    good as both. -/
theorem reducer_best (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨av, ai⟩ := a
  obtain ⟨bv, bi⟩ := b
  rcases lt_trichotomy bv av with h | h | h
  · have e : reducer_argmax_f32_i32 (F := Ideal) (av, ai) (bv, bi) = (av, ai) := by
      simp [reducer_argmax_f32_i32, Ideal.cmpf_def, Ideal.cmp, h, ne_of_gt h, IntOp.ori, IntOp.andi, Scalar.select]
    rw [e]; exact ⟨Or.inl rfl, Beats.refl _, Or.inl h⟩
  · subst h
    by_cases hi : ai.slt bi
    · have e : reducer_argmax_f32_i32 (F := Ideal) (bv, ai) (bv, bi) = (bv, ai) := by
        simp [reducer_argmax_f32_i32, Ideal.cmpf_def, Ideal.cmp, hi, IntOp.ori, IntOp.andi, Scalar.select, IntOp.cmpi]
      rw [e]
      exact ⟨Or.inl rfl, Beats.refl _, Or.inr ⟨rfl, le_of_lt (BitVec.slt_iff_toInt_lt.mp hi)⟩⟩
    · have e : reducer_argmax_f32_i32 (F := Ideal) (bv, ai) (bv, bi) = (bv, bi) := by
        simp [reducer_argmax_f32_i32, Ideal.cmpf_def, Ideal.cmp, hi, IntOp.ori, IntOp.andi, Scalar.select, IntOp.cmpi]
      rw [e]
      refine ⟨Or.inr rfl, Or.inr ⟨rfl, ?_⟩, Beats.refl _⟩
      rw [BitVec.slt_iff_toInt_lt] at hi
      exact not_lt.mp hi
  · have e : reducer_argmax_f32_i32 (F := Ideal) (av, ai) (bv, bi) = (bv, bi) := by
      simp [reducer_argmax_f32_i32, Ideal.cmpf_def, Ideal.cmp, not_lt.mpr (le_of_lt h), ne_of_lt h, IntOp.ori, IntOp.andi,
        Scalar.select]
    rw [e]; exact ⟨Or.inr rfl, Or.inl h, Beats.refl _⟩

/-- The pairs (value, column) of the elements of an array that a reduction along its rows sends to row `r` are those of
    the row's columns. -/
theorem mem_fiber {R C : Nat} (h' : (⟨2, ![R, C]⟩ : Shape).ReducesTo [1] ⟨1, ![R]⟩)
    (h : (⟨2, ![R, C]⟩ : Shape).Reduces [1] ⟨1, ![R]⟩) (x : (⟨2, ![R, C]⟩ : Shape).Idx → EReal) (r : Fin R)
    (q : EReal × BitVec 32) :
    q ∈ Host.argReduceFiber x (iotaInDim ⟨2, ![R, C]⟩ 32 1) h' (ix1 r)
      ↔ ∃ k : Fin C, q = (x (ix2 r k), BitVec.ofNat 32 k.val) := by
  unfold Host.argReduceFiber
  rw [Shape.ReducesTo.drop_eq_drop h' h]
  simp only [List.mem_map, List.mem_filter, List.mem_finRange, true_and, decide_eq_true_eq]
  constructor
  · rintro ⟨n, hn, rfl⟩
    generalize (⟨2, ![R, C]⟩ : Shape).rowMajor.symm n = i at hn
    obtain ⟨a, k, rfl⟩ : ∃ (a : Fin R) (k : Fin C), i = ix2 a k := ⟨i 0, i 1, eq_ix2 i⟩
    have h0 : a = r := congrFun hn 0
    subst h0
    exact ⟨k, rfl⟩
  · rintro ⟨k, rfl⟩
    obtain ⟨n, hn⟩ := (⟨2, ![R, C]⟩ : Shape).rowMajor.symm.surjective (ix2 r k)
    refine ⟨n, ?_, ?_⟩
    · rw [hn]
      funext b
      match b with
      | ⟨0, _⟩ => rfl
    · rw [hn]; rfl

/-- An arg-max by such a reducer along the rows of an array, started from the bottom at column zero, is at row `r` the
    word of the row's first greatest column. -/
theorem argReduce_row {R C : Nat} [NeZero C] (hC : C < 2147483648) {u : Shape} (h' : (⟨2, ![R, C]⟩ : Shape).ReducesTo [1] ⟨1, ![R]⟩)
    (h : (⟨2, ![R, C]⟩ : Shape).Reduces [1] ⟨1, ![R]⟩) (hu : 0 < u.numel)
    (f : Ideal .f32 × BitVec 32 → Ideal .f32 × BitVec 32 → Ideal .f32 × BitVec 32)
    (hf : ∀ a b, (f a b = a ∨ f a b = b) ∧ Beats (f a b) a ∧ Beats (f a b) b)
    (x : FVec Ideal ⟨2, ![R, C]⟩ .f32) (ix : FVec Ideal u .f32) (iy : IVec u 32)
    (hix : ∀ j, ix j = (⊥ : EReal)) (hiy : ∀ j, iy j = 0#32) (r : Fin R) :
    (Host.argReduce f x (iotaInDim ⟨2, ![R, C]⟩ 32 1) ix iy h' hu (ix1 r)).2
      = BitVec.ofNat 32 (first fun k : Fin C => x (ix2 r k)).val := by
  rw [Ideal.argReduce_eq_reduce2, Host.reduce2_eq_foldl_fiber, hix, hiy]
  exact foldl_first hC (fun k : Fin C => x (ix2 r k)) f hf _ (mem_fiber h' h x r)

theorem reduces_row : S16384x1024.Reduces [1] S16384 := by decide

/-- At row `r` the arg-max is the word of the row's first greatest column. -/
theorem argPair_apply (x1 : S16384x1024.Idx → EReal) (r : Fin 16384) :
    (argPair x1 (ix1 r)).2 = BitVec.ofNat 32 (first fun k : Fin 1024 => x1 (ix2 r k)).val := by
  have h := @argReduce_row 16384 1024 _ (by decide) S_ reducesTo_S16384x1024_S16384_d1 reduces_row h_S_ _ reducer_best x1
    (constant (F := Ideal) S_ .f32 0xFF800000#32) (constantI S_ 32 0#32) (fun _ => ofBits_bot) (fun _ => rfl) r
  rw [argPair_eq]
  exact h

/-! ## The gather -/

/-- The dimension numbers of a gather of one entry per row of an `[R, C]` array at start columns `[R, 1, 1]`. -/
abbrev colDims (R C : Nat)
    (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- Such a gather, at row `r` with start column `k` in range, is the entry at `(r, k)`. -/
theorem gather_col {R C : Nat}
    (wf : GatherDims.WF ⟨2, ![R, C]⟩ ⟨3, ![R, 1, 1]⟩ ⟨2, ![R, 1]⟩ [] [1] [0] [1] [0] 2 ![1, 1])
    (x : (⟨2, ![R, C]⟩ : Shape).Idx → EReal) (idx : IVec ⟨3, ![R, 1, 1]⟩ 32) (r : Fin R) (k : Fin C)
    (hk : (idx (ix3 r 0 0)).toInt = k.val) :
    Host.gather (colDims R C wf) x idx (ix2 r 0) = x (ix2 r k) := by
  unfold Host.gather
  refine congrArg x ?_
  funext a
  refine Fin.ext ?_
  show (colDims R C wf).start (ix2 r 0) idx a + (colDims R C wf).batchCoord (ix2 r 0) a
      + (colDims R C wf).offCoord (ix2 r 0) a = _
  have h01 : a = 0 ∨ a = 1 := match a with
    | ⟨0, _⟩ => Or.inl rfl
    | ⟨1, _⟩ => Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R C wf).startIndexMap from List.mem_singleton.mpr rfl)]
    have hsi : (colDims R C wf).siIdx (ix2 r 0) ⟨List.idxOf (1 : Fin 2) (colDims R C wf).startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    have hk' := k.isLt
    show min (idx ((colDims R C wf).siIdx (ix2 r 0) _)).toInt.toNat (C - 1) = k.val
    refine (congrArg (fun i => min (idx i).toInt.toNat (C - 1)) hsi).trans ?_
    show min (idx (ix3 r 0 0)).toInt.toNat (C - 1) = k.val
    rw [hk]
    omega

/-! ## The take along the rows -/

/-- The column asked for, wrapped when negative. -/
def wrapped (i : IVec S16384x1 32) : IVec S16384x1 32 :=
  select (cmpi .slt i (broadcastInDim S16384x1 ![] bcast_S_S16384x1 (constantI S_ 32 0#32)))
    (addi i (broadcastInDim S16384x1 ![] bcast_S_S16384x1 (constantI S_ 32 1024#32))) i

/-- The start columns of the gather. -/
def starts (i : IVec S16384x1 32) : IVec S16384x1x1 32 :=
  shapeCast S16384x1x1 (wrapped i) shapeCasts_S16384x1_S16384x1x1

/-- Which start columns lie in the row. -/
def inRow (i : IVec S16384x1 32) : IVec S16384x1x1 1 :=
  andi (cmpi .sge (starts i) (broadcastInDim S16384x1x1 ![] bcast_S_S16384x1x1 (constantI S_ 32 0#32)))
    (cmpi .sle (starts i) (broadcastInDim S16384x1x1 ![0, 1, 2] bcast_S1x1x1_S16384x1x1_0_1_2
      (broadcastInDim S1x1x1 ![2] bcast_S1_S1x1x1_2 (constantI S1 32 1023#32))))

/-- The reference's take of one entry per row, as it composes it. -/
def takeOut (x0 : S16384x1024.Idx → EReal) (i : IVec S16384x1 32) : S16384x1.Idx → EReal :=
  select (Host.reduce IntOp.andi (inRow i) (constantI S_ 1 1#1) reducesTo_S16384x1x1_S16384x1_d2 h_S_)
    (Host.gather gather_S16384x1024_S16384x1x1_S16384x1_n_1_0_0_1_2_11 x0 (starts i))
    (broadcastInDim S16384x1 ![] bcast_S_S16384x1 (constant (F := Ideal) S_ .f32 0x7FC00000#32))

/-- A conjunction of set bits, started from a set bit, is set. -/
theorem reduce_andi_ones {s t u : Shape} {axes : List (Fin s.rank)} (x : IVec s 1) (init : IVec u 1) (h : s.ReducesTo axes t)
    (hu : 0 < u.numel) (j : t.Idx) (hx : ∀ i, x i = 1#1) (hi : ∀ i, init i = 1#1) :
    Host.reduce IntOp.andi x init h hu j = 1#1 := by
  rw [Host.reduce_eq_foldl, hi]
  generalize (((List.finRange s.numel).map s.rowMajor.symm).filter fun i => h.drop i = j) = l
  induction l with
  | nil => rfl
  | cons b l ih =>
    rw [List.foldl_cons, hx]
    exact ih

section Take

variable (i : IVec S16384x1 32) (k : Fin 16384 → Fin 1024) (hi : ∀ r, i (ix2 r 0) = BitVec.ofNat 32 (k r).val)
include hi

/-- A column in the row is not wrapped. -/
theorem wrapped_apply (r : Fin 16384) : wrapped i (ix2 r 0) = BitVec.ofNat 32 (k r).val := by
  have hlt : IntOp.cmpi .slt (BitVec.ofNat 32 (k r).val) 0#32 = 0#1 := by
    have h := (k r).isLt
    have h0 : ¬ (BitVec.ofNat 32 (k r).val).slt 0#32 := by
      rw [BitVec.slt_iff_toInt_lt, toInt_ofNat_small (k := (k r).val) (by omega)]
      simp
    simp [IntOp.cmpi, h0]
  show Scalar.select (IntOp.cmpi .slt (i (ix2 r 0)) 0#32) (IntOp.addi (i (ix2 r 0)) 1024#32) (i (ix2 r 0)) = _
  rw [hi, hlt, select_zero]

/-- So it is the gather's start column. -/
theorem starts_apply (r : Fin 16384) : starts i (ix3 r 0 0) = BitVec.ofNat 32 (k r).val := by
  rw [← wrapped_apply i k hi r]
  refine shapeCast_apply _ _ _ _ ?_
  rw [Shape.rowMajor_val_two, Shape.rowMajor_val_three]
  simp

/-- Every start column lies in the row. -/
theorem inRow_apply (y : S16384x1x1.Idx) : inRow i y = 1#1 := by
  obtain ⟨r, rfl⟩ : ∃ r : Fin 16384, y = ix3 r 0 0 :=
    ⟨y 0, by
      funext a
      match a with
      | ⟨0, _⟩ => rfl
      | ⟨1, _⟩ => exact Subsingleton.elim (α := Fin 1) _ _
      | ⟨2, _⟩ => exact Subsingleton.elim (α := Fin 1) _ _⟩
  have h := (k r).isLt
  have e := toInt_ofNat_small (k := (k r).val) (by omega)
  have h0 : (0#32).sle (BitVec.ofNat 32 (k r).val) := by
    rw [BitVec.sle_iff_toInt_le, e]; simp
  have h1 : (BitVec.ofNat 32 (k r).val).sle 1023#32 := by
    have e' : (1023#32).toInt = 1023 := by decide
    rw [BitVec.sle_iff_toInt_le, e, e']; omega
  show IntOp.andi (IntOp.cmpi .sge (starts i (ix3 r 0 0)) 0#32) (IntOp.cmpi .sle (starts i (ix3 r 0 0)) 1023#32) = 1#1
  rw [starts_apply i k hi r]
  simp [IntOp.cmpi, IntOp.andi, h0, h1]

/-- And the take is the entry at that column. -/
theorem takeOut_apply (x0 : S16384x1024.Idx → EReal) (r : Fin 16384) : takeOut x0 i (ix2 r 0) = x0 (ix2 r (k r)) := by
  unfold takeOut
  rw [select_apply, reduce_andi_ones (inRow i) (constantI S_ 1 1#1) _ _ _ (inRow_apply i k hi) (fun _ => rfl), select_one]
  refine gather_col gather_S16384x1024_S16384x1x1_S16384x1_n_1_0_0_1_2_11_wf x0 (starts i) r (k r) ?_
  have h := (k r).isLt
  rw [starts_apply i k hi r, toInt_ofNat_small (by omega)]

end Take

/-! ## The result -/

/-- The reference's result as it composes it, over the columns `p` its arg-max found and over any conjunction and any
    gather in place of its own. -/
def outWith (N : IVec S16384x1x1 1 → IVec S_ 1 → IVec S16384x1 1)
    (G : (S16384x1024.Idx → EReal) → IVec S16384x1x1 32 → (S16384x1.Idx → EReal)) (p : IVec S16384 32)
    (x0 : S16384x1024.Idx → EReal) (x2 : S16384x1.Idx → EReal) (x3 : S16384x1.Idx → BitVec 1) : S16384.Idx → EReal :=
  addf (F := Ideal) (φ := .f32)
    (mulf (F := Ideal) (φ := .f32)
      (select (shapeCast S16384 x3 shapeCasts_S16384x1_S16384)
        (broadcastInDim S16384 ![0] bcast_S1_S16384_0
          (broadcastInDim S1 ![] bcast_S_S1 (constant (F := Ideal) S_ .f32 0x00000000#32)))
        (shapeCast S16384
          (select (N (inRow (broadcastInDim S16384x1 ![0] bcast_S16384_S16384x1_0 p)) (constantI S_ 1 1#1))
            (G x0 (starts (broadcastInDim S16384x1 ![0] bcast_S16384_S16384x1_0 p)))
            (broadcastInDim S16384x1 ![] bcast_S_S16384x1 (constant (F := Ideal) S_ .f32 0x7FC00000#32)))
          shapeCasts_S16384x1_S16384))
      (broadcastInDim S16384 ![] bcast_S_S16384 (constant (F := Ideal) S_ .f32 0x3F7D70A4#32)))
    (shapeCast S16384 x2 shapeCasts_S16384x1_S16384)

/-- The same at the reference's own conjunction and gather, the columns being its arg-max's. -/
def out (x0 x1 : S16384x1024.Idx → EReal) (x2 : S16384x1.Idx → EReal) (x3 : S16384x1.Idx → BitVec 1) : S16384.Idx → EReal :=
  outWith (fun x v => Host.reduce IntOp.andi x v reducesTo_S16384x1x1_S16384x1_d2 h_S_)
    (fun x i => Host.gather gather_S16384x1024_S16384x1x1_S16384x1_n_1_0_0_1_2_11 x i)
    (fun j => (argPair x1 j).2) x0 x2 x3

/-- A column `[R, 1]` cast to a row of `R` reads, at `r`, its element `(r, 0)`. -/
theorem column_apply {R : Nat} {α : Type} (x : (⟨2, ![R, 1]⟩ : Shape).Idx → α)
    (h : (⟨2, ![R, 1]⟩ : Shape).ShapeCasts ⟨1, ![R]⟩) (r : Fin R) : shapeCast ⟨1, ![R]⟩ x h (ix1 r) = x (ix2 r 0) := by
  refine shapeCast_apply _ _ _ _ ?_
  rw [Shape.rowMajor_val_two, Shape.rowMajor_val_one]
  show r.val * 1 + 0 = r.val
  omega

/-- The reference's result is each row's target. -/
theorem out_eq (x0 x1 : S16384x1024.Idx → EReal) (x2 : S16384x1.Idx → EReal) (x3 : S16384x1.Idx → BitVec 1) :
    out x0 x1 x2 x3 = want x0 x1 x2 x3 := by
  funext j
  obtain ⟨r, rfl⟩ : ∃ r : Fin 16384, j = ix1 r := ⟨j 0, eq_ix1 j⟩
  have hk : ∀ r : Fin 16384, (broadcastInDim S16384x1 ![0] bcast_S16384_S16384x1_0 fun j => (argPair x1 j).2) (ix2 r 0)
      = BitVec.ofNat 32 (first fun k : Fin 1024 => x1 (ix2 r k)).val := by
    intro r
    rw [← argPair_apply x1 r]
    refine (broadcastInDim_apply _ _ _ _ (ix1 r) ?_).trans rfl
    intro a
    obtain rfl : a = 0 := Subsingleton.elim (α := Fin 1) _ _
    rfl
  have hv := takeOut_apply _ _ hk x0 r
  show Scalar.select (shapeCast S16384 x3 shapeCasts_S16384x1_S16384 (ix1 r)) (Ideal.ofBits .f32 0x00000000#32)
      (shapeCast S16384 (takeOut x0 (broadcastInDim S16384x1 ![0] bcast_S16384_S16384x1_0 fun j => (argPair x1 j).2))
        shapeCasts_S16384x1_S16384 (ix1 r)) * Ideal.ofBits .f32 0x3F7D70A4#32
      + shapeCast S16384 x2 shapeCasts_S16384x1_S16384 (ix1 r)
    = (if x3 (ix2 r 0) = 1#1 then 0 else x0 (ix2 r (first fun k : Fin 1024 => x1 (ix2 r k)))) * Ideal.ofBits .f32 0x3F7D70A4#32
      + x2 (ix2 r 0)
  rw [column_apply x3, column_apply x2, column_apply (takeOut _ _), hv, Ideal.ofBits_zero_f32]
  by_cases hd : x3 (ix2 r 0) = 1#1
  · rw [if_pos hd, hd, select_one]
  · rw [if_neg hd, eq_zero_of_ne_one hd, select_zero]

end Cert.RefValue

end
-- ==== Proof.RefOps.lean ====
/- The reference's line of operations with its four folds (the two halves of the arg-max, the conjunction, the gather)
   left as parameters: the line's value at the result is then a small term in those parameters. -/
module

public import proofs.«01_k».proof.Proof.RefValue
public import Idealize.ShloMosaic.Lib.Claim

@[expose] public section

noncomputable section

namespace Cert.RefOps

open Idealize.ShloMosaic Idealize.ShloMosaic.TcCoe Idealize.ShloMosaic.StableHlo Idealize.SL.Sem
open Cert.ReferenceIdeal Cert.ReferenceIdeal.Gen

/-- The arg-max's first half: the greatest values. -/
abbrev MaxOp := (S16384x1024.Idx → EReal) → IVec S16384x1024 32 → (S_.Idx → EReal) → IVec S_ 32 → (S16384.Idx → EReal)
/-- The arg-max's second half: their columns. -/
abbrev ArgOp := (S16384x1024.Idx → EReal) → IVec S16384x1024 32 → (S_.Idx → EReal) → IVec S_ 32 → IVec S16384 32
/-- The conjunction. -/
abbrev AndOp := IVec S16384x1x1 1 → IVec S_ 1 → IVec S16384x1 1
/-- The gather. -/
abbrev TakeOp := (S16384x1024.Idx → EReal) → IVec S16384x1x1 32 → (S16384x1.Idx → EReal)

/-- The thirty-nine operations in order, the calls' bodies in their places. -/
abbrev ops (A₁ : MaxOp) (A₂ : ArgOp) (N : AndOp) (G : TakeOp) : List (HloOp τ sig (Elt Ideal)) :=
  [ reshape main_arg3 main_v0 (rfl : (.i1 : EltTy) = .i1) shapeCasts_S16384x1_S16384,
    TRef.nullary (.of main_call0_v0 : TRef sig ⟨S16384x1024, .i32⟩) (iotaInDim S16384x1024 32 1),
    TRef.nullary (.of main_call0_cst : TRef sig ⟨S_, .f32⟩) (constant (F := Ideal) S_ .f32 0xFF800000#32),
    TRef.nullary (.of main_call0_c : TRef sig ⟨S_, .i32⟩) (constantI S_ 32 0#32),
    TRef.quaternary (.of main_arg1 : TRef sig ⟨S16384x1024, .f32⟩) (.of main_call0_v0 : TRef sig ⟨S16384x1024, .i32⟩) (.of main_call0_cst : TRef sig ⟨S_, .f32⟩) (.of main_call0_c : TRef sig ⟨S_, .i32⟩) (.of main_call0_v1_0 : TRef sig ⟨S16384, .f32⟩) A₁,
    TRef.quaternary (.of main_arg1 : TRef sig ⟨S16384x1024, .f32⟩) (.of main_call0_v0 : TRef sig ⟨S16384x1024, .i32⟩) (.of main_call0_cst : TRef sig ⟨S_, .f32⟩) (.of main_call0_c : TRef sig ⟨S_, .i32⟩) (.of main_v1 : TRef sig ⟨S16384, .i32⟩) A₂,
    unary main_v1 main_v2 (broadcastInDim S16384x1 ![0] bcast_S16384_S16384x1_0 : (⟨S16384, .i32⟩ : BufTy).Contents (Elt Ideal) → (⟨S16384x1, .i32⟩ : BufTy).Contents (Elt Ideal)),
    TRef.nullary (.of main_call1_c : TRef sig ⟨S_, .i32⟩) (constantI S_ 32 0#32),
    TRef.unary (.of main_call1_c : TRef sig ⟨S_, .i32⟩) (.of main_call1_v0 : TRef sig ⟨S16384x1, .i32⟩) (broadcastInDim S16384x1 ![] bcast_S_S16384x1),
    TRef.binary (.of main_v2 : TRef sig ⟨S16384x1, .i32⟩) (.of main_call1_v0 : TRef sig ⟨S16384x1, .i32⟩) (.of main_call1_v1 : TRef sig ⟨S16384x1, .i1⟩) (cmpi .slt),
    TRef.nullary (.of main_call1_c_0 : TRef sig ⟨S_, .i32⟩) (constantI S_ 32 1024#32),
    TRef.unary (.of main_call1_c_0 : TRef sig ⟨S_, .i32⟩) (.of main_call1_v2 : TRef sig ⟨S16384x1, .i32⟩) (broadcastInDim S16384x1 ![] bcast_S_S16384x1),
    TRef.binary (.of main_v2 : TRef sig ⟨S16384x1, .i32⟩) (.of main_call1_v2 : TRef sig ⟨S16384x1, .i32⟩) (.of main_call1_v3 : TRef sig ⟨S16384x1, .i32⟩) addi,
    TRef.ternary (.of main_call1_v1 : TRef sig ⟨S16384x1, .i1⟩) (.of main_call1_v3 : TRef sig ⟨S16384x1, .i32⟩) (.of main_v2 : TRef sig ⟨S16384x1, .i32⟩) (.of main_call1_v4 : TRef sig ⟨S16384x1, .i32⟩) select,
    TRef.reshape (.of main_call1_v4 : TRef sig ⟨S16384x1, .i32⟩) (.of main_call1_v5 : TRef sig ⟨S16384x1x1, .i32⟩) (rfl : (.i32 : EltTy) = .i32) shapeCasts_S16384x1_S16384x1x1,
    TRef.nullary (.of main_call1_c_1 : TRef sig ⟨S1, .i32⟩) (constantI S1 32 1023#32),
    TRef.nullary (.of main_call1_c_2 : TRef sig ⟨S_, .i32⟩) (constantI S_ 32 0#32),
    TRef.unary (.of main_call1_c_2 : TRef sig ⟨S_, .i32⟩) (.of main_call1_v6 : TRef sig ⟨S16384x1x1, .i32⟩) (broadcastInDim S16384x1x1 ![] bcast_S_S16384x1x1),
    TRef.binary (.of main_call1_v5 : TRef sig ⟨S16384x1x1, .i32⟩) (.of main_call1_v6 : TRef sig ⟨S16384x1x1, .i32⟩) (.of main_call1_v7 : TRef sig ⟨S16384x1x1, .i1⟩) (cmpi .sge),
    TRef.unary (.of main_call1_c_1 : TRef sig ⟨S1, .i32⟩) (.of main_call1_v8 : TRef sig ⟨S1x1x1, .i32⟩) (broadcastInDim S1x1x1 ![2] bcast_S1_S1x1x1_2),
    TRef.unary (.of main_call1_v8 : TRef sig ⟨S1x1x1, .i32⟩) (.of main_call1_v9 : TRef sig ⟨S16384x1x1, .i32⟩) (broadcastInDim S16384x1x1 ![0, 1, 2] bcast_S1x1x1_S16384x1x1_0_1_2),
    TRef.binary (.of main_call1_v5 : TRef sig ⟨S16384x1x1, .i32⟩) (.of main_call1_v9 : TRef sig ⟨S16384x1x1, .i32⟩) (.of main_call1_v10 : TRef sig ⟨S16384x1x1, .i1⟩) (cmpi .sle),
    TRef.binary (.of main_call1_v7 : TRef sig ⟨S16384x1x1, .i1⟩) (.of main_call1_v10 : TRef sig ⟨S16384x1x1, .i1⟩) (.of main_call1_v11 : TRef sig ⟨S16384x1x1, .i1⟩) andi,
    TRef.nullary (.of main_call1_c_3 : TRef sig ⟨S_, .i1⟩) (constantI S_ 1 1#1),
    TRef.binary (.of main_call1_v11 : TRef sig ⟨S16384x1x1, .i1⟩) (.of main_call1_c_3 : TRef sig ⟨S_, .i1⟩) (.of main_call1_v12 : TRef sig ⟨S16384x1, .i1⟩) N,
    TRef.binary (.of main_arg0 : TRef sig ⟨S16384x1024, .f32⟩) (.of main_call1_v5 : TRef sig ⟨S16384x1x1, .i32⟩) (.of main_call1_v13 : TRef sig ⟨S16384x1, .f32⟩) G,
    TRef.nullary (.of main_call1_cst : TRef sig ⟨S_, .f32⟩) (constant (F := Ideal) S_ .f32 0x7FC00000#32),
    TRef.unary (.of main_call1_cst : TRef sig ⟨S_, .f32⟩) (.of main_call1_v14 : TRef sig ⟨S16384x1, .f32⟩) (broadcastInDim S16384x1 ![] bcast_S_S16384x1),
    TRef.ternary (.of main_call1_v12 : TRef sig ⟨S16384x1, .i1⟩) (.of main_call1_v13 : TRef sig ⟨S16384x1, .f32⟩) (.of main_call1_v14 : TRef sig ⟨S16384x1, .f32⟩) (.of main_v3 : TRef sig ⟨S16384x1, .f32⟩) select,
    reshape main_v3 main_v4 (rfl : (.f32 : EltTy) = .f32) shapeCasts_S16384x1_S16384,
    nullary main_cst (constant (F := Ideal) S_ .f32 0x00000000#32),
    unary main_cst main_v5 (broadcastInDim S1 ![] bcast_S_S1 : (⟨S_, .f32⟩ : BufTy).Contents (Elt Ideal) → (⟨S1, .f32⟩ : BufTy).Contents (Elt Ideal)),
    TRef.unary (.of main_v5 : TRef sig ⟨S1, .f32⟩) (.of main_call2_v0 : TRef sig ⟨S16384, .f32⟩) (broadcastInDim S16384 ![0] bcast_S1_S16384_0),
    TRef.ternary (.of main_v0 : TRef sig ⟨S16384, .i1⟩) (.of main_call2_v0 : TRef sig ⟨S16384, .f32⟩) (.of main_v4 : TRef sig ⟨S16384, .f32⟩) (.of main_v6 : TRef sig ⟨S16384, .f32⟩) select,
    reshape main_arg2 main_v7 (rfl : (.f32 : EltTy) = .f32) shapeCasts_S16384x1_S16384,
    nullary main_cst_0 (constant (F := Ideal) S_ .f32 0x3F7D70A4#32),
    unary main_cst_0 main_v8 (broadcastInDim S16384 ![] bcast_S_S16384 : (⟨S_, .f32⟩ : BufTy).Contents (Elt Ideal) → (⟨S16384, .f32⟩ : BufTy).Contents (Elt Ideal)),
    binary main_v6 main_v8 main_v9 (mulf (F := Ideal) (φ := .f32) : (⟨S16384, .f32⟩ : BufTy).Contents (Elt Ideal) → (⟨S16384, .f32⟩ : BufTy).Contents (Elt Ideal) → (⟨S16384, .f32⟩ : BufTy).Contents (Elt Ideal)),
    binary main_v9 main_v7 main_v10 (addf (F := Ideal) (φ := .f32) : (⟨S16384, .f32⟩ : BufTy).Contents (Elt Ideal) → (⟨S16384, .f32⟩ : BufTy).Contents (Elt Ideal) → (⟨S16384, .f32⟩ : BufTy).Contents (Elt Ideal)) ]

/-- Each works on the device's own buffers. -/
theorem ops_sub (A₁ : MaxOp) (A₂ : ArgOp) (N : AndOp) (G : TakeOp) :
    (ops A₁ A₂ N G).Forall fun op => op.bufs ⊆ tcRefs τ sig :=
  ⟨reshape_bufs_sub .., nullary_bufs_sub .., nullary_bufs_sub .., nullary_bufs_sub .., quaternary_bufs_sub ..,
    quaternary_bufs_sub .., unary_bufs_sub .., nullary_bufs_sub .., unary_bufs_sub .., binary_bufs_sub ..,
    nullary_bufs_sub .., unary_bufs_sub .., binary_bufs_sub .., ternary_bufs_sub .., reshape_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., nullary_bufs_sub .., unary_bufs_sub .., ternary_bufs_sub .., reshape_bufs_sub ..,
    nullary_bufs_sub .., unary_bufs_sub .., unary_bufs_sub .., ternary_bufs_sub .., reshape_bufs_sub ..,
    nullary_bufs_sub .., unary_bufs_sub .., binary_bufs_sub .., binary_bufs_sub ..⟩

/-- The printed program is that line at its own four folds. -/
theorem main_eq (c : Dev nD) : main (F := Ideal) c = seq (ops
    (fun x y u v j => (Host.argReduce (F := Ideal) (φ := .f32) reducer_argmax_f32_i32 x y u v reducesTo_S16384x1024_S16384_d1 h_S_ j).1)
    (fun x y u v j => (Host.argReduce (F := Ideal) (φ := .f32) reducer_argmax_f32_i32 x y u v reducesTo_S16384x1024_S16384_d1 h_S_ j).2)
    (fun x v => Host.reduce IntOp.andi x v reducesTo_S16384x1x1_S16384x1_d2 h_S_)
    (fun x i => Host.gather gather_S16384x1024_S16384x1x1_S16384x1_n_1_0_0_1_2_11 x i)) := by
  simp only [main, fn_argmax.body, fn_take_along_axis.body, fn_where.body, ops, seq, bind_assoc, pure_bind]

section

variable (A₁ : MaxOp) (A₂ : ArgOp) (N : AndOp) (G : TakeOp) (V : Valuation τ sig (Elt Ideal))

/-- The line's value at the result. -/
theorem result_eq : after (ops A₁ A₂ N G) V (main_v10 : DevRef τ sig)
    = RefValue.outWith N G
        (A₂ (V (main_arg1 : DevRef τ sig)) (iotaInDim S16384x1024 32 1) (constant (F := Ideal) S_ .f32 0xFF800000#32)
          (constantI S_ 32 0#32))
        (V (main_arg0 : DevRef τ sig)) (V (main_arg2 : DevRef τ sig)) (V (main_arg3 : DevRef τ sig)) := by
  unfold ops
  after_results_simp
  rfl

/-- The line leaves the first argument. -/
theorem arg0_eq : after (ops A₁ A₂ N G) V (main_arg0 : DevRef τ sig) = V (main_arg0 : DevRef τ sig) := by
  simp only [ops, after_cons, after_nil]
  rfl

/-- The line leaves the second argument. -/
theorem arg1_eq : after (ops A₁ A₂ N G) V (main_arg1 : DevRef τ sig) = V (main_arg1 : DevRef τ sig) := by
  simp only [ops, after_cons, after_nil]
  rfl

/-- The line leaves the third argument. -/
theorem arg2_eq : after (ops A₁ A₂ N G) V (main_arg2 : DevRef τ sig) = V (main_arg2 : DevRef τ sig) := by
  simp only [ops, after_cons, after_nil]
  rfl

/-- The line leaves the fourth argument. -/
theorem arg3_eq : after (ops A₁ A₂ N G) V (main_arg3 : DevRef τ sig) = V (main_arg3 : DevRef τ sig) := by
  simp only [ops, after_cons, after_nil]
  rfl

end

end Cert.RefOps

end
-- ==== Proof.RefRun.lean ====
/- The reference's run: it terminates with the arguments unchanged, and its result holds each row's target. -/
module

public import proofs.«01_k».proof.Proof.RefOps
public import Idealize.ShloMosaic.Lib.Claim
public import Idealize.ShloMosaic.Lib.Quiescent

@[expose] public section

noncomputable section

namespace Cert.RefRun

open Idealize.ShloMosaic Idealize.SL.Sem Cert.ReferenceIdeal Cert.ReferenceIdeal.Gen Cert.Row

/-- The reference runs, leaves its arguments unchanged and ends with every counter at zero: it has none. -/
theorem frame : Cert.quiescent_ReferenceIdeal := by
  intro m g _
  refine (θ_run Cert.ReferenceIdeal.defs _ _).mono (fun r h => ⟨h, Idealize.ShloMosaic.sem_eq_zero_of_no_sems (by decide) r.2⟩) ?_
  hlo_run

/-- The reference runs to its result, each row's target of the argument arrays, the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v10)
        = want (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have h := StableHlo.run_seq (by decide) (by decide) (defs (F := Ideal)) main _ RefOps.main_eq (fun _ => RefOps.ops_sub _ _ _ _) m g
  refine (θ_run (defs (F := Ideal)) _ _).mono (fun r h c => ⟨?_, (h c main_arg0).trans (RefOps.arg0_eq _ _ _ _ _),
    (h c main_arg1).trans (RefOps.arg1_eq _ _ _ _ _), (h c main_arg2).trans (RefOps.arg2_eq _ _ _ _ _),
    (h c main_arg3).trans (RefOps.arg3_eq _ _ _ _ _)⟩) h
  rw [h c main_v10, RefOps.result_eq, ← RefValue.out_eq]
  unfold RefValue.out
  rw [RefValue.argPair_eq]

end Cert.RefRun

end
-- ==== Proof.lean ====
/- The proof of the certificate's claims: the three runs, and the kernel's result equal to the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.RefRun
public import Idealize.ShloMosaic.Adequacy
public import Idealize.ShloMosaic.Init

@[expose] public section

noncomputable section

namespace Cert.Proof

open Idealize.ShloMosaic Idealize.SL.Sem

/-- From memories agreeing on the arguments, both programs run to the same result: each row's target. -/
theorem equal : letI := Cert.KernelIdeal.Gen.facts; letI := Cert.ReferenceIdeal.Gen.facts
    Cert.algebraic_KernelIdeal_ReferenceIdeal := by
  intro m g m' g' _ hagree
  refine ⟨_, Cert.KernelValue.run m g, ?_⟩
  refine (θ_run (Cert.ReferenceIdeal.defs (F := Ideal)) _ _).mono (fun r h c => ⟨?_, (h c).2⟩) (Cert.RefRun.run m' g')
  obtain ⟨h0, h1, h2, h3⟩ := hagree c
  rw [(h c).1, h0, h1, h2, h3]

/-- Every claim of the certificate. -/
theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, Cert.RefRun.frame, trivial, equal⟩

end Cert.Proof

end
